-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x50 : Shape := ⟨2, ![1024, 50]⟩
abbrev S1000x768 : Shape := ⟨2, ![1000, 768]⟩
abbrev S_ : Shape := ⟨0, ![]⟩

class Facts : Prop where
  bcast_S_S1024x50 : S_.BroadcastsInDim S1024x50 (![] : Fin 0 → Fin S1024x50.rank)

variable [Facts]

def fn {F : FTy → Type} [FloatOps F] (main_arg0 : IVec S1024x50 32) (main_arg1 : IVec S1024x50 32) (main_arg2 : FVec F S1000x768 .f32) : IVec S1024x50 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 32 := constantI S_ 32 0#32
  let main_v5 : IVec S1024x50 32 := broadcastInDim S1024x50 ![] bcast_S_S1024x50 main_c_1
  let main_v6 : IVec S1024x50 1 := cmpi .sge main_arg1 main_v5
  let main_v7 : IVec S1024x50 1 := andi main_v4 main_v6
  main_v7
-- ==== Kernel.lean ====
abbrev S1024x50 : Shape := ⟨2, ![1024, 50]⟩
abbrev S1000x768 : Shape := ⟨2, ![1000, 768]⟩
abbrev S_ : Shape := ⟨0, ![]⟩
abbrev S1024x768 : Shape := ⟨2, ![1024, 768]⟩
abbrev S128x50 : Shape := ⟨2, ![128, 50]⟩
abbrev S128x768 : Shape := ⟨2, ![128, 768]⟩
abbrev S128x1024 : Shape := ⟨2, ![128, 1024]⟩
abbrev S128x1 : Shape := ⟨2, ![128, 1]⟩
abbrev S128 : Shape := ⟨1, ![128]⟩

abbrev nBuf : Space → Nat
  | .hbm => 7
  | .vmem => 7
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S1000x768, .f32⟩
  | .hbm, ⟨3, _⟩ => ⟨S_, .i32⟩
  | .hbm, ⟨4, _⟩ => ⟨S_, .f32⟩
  | .hbm, ⟨5, _⟩ => ⟨S1024x768, .f32⟩
  | .hbm, ⟨6, _⟩ => ⟨S1024x768, .f32⟩
  | .local _ .vmem, ⟨0, _⟩ => ⟨S128x50, .i32⟩
  | .local _ .vmem, ⟨1, _⟩ => ⟨S128x50, .i32⟩
  | .local _ .vmem, ⟨2, _⟩ => ⟨S128x50, .i32⟩
  | .local _ .vmem, ⟨3, _⟩ => ⟨S128x50, .i32⟩
  | .local _ .vmem, ⟨4, _⟩ => ⟨S1024x768, .f32⟩
  | .local _ .vmem, ⟨5, _⟩ => ⟨S128x768, .f32⟩
  | .local _ .vmem, ⟨6, _⟩ => ⟨S128x768, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x50 : Shape := ⟨2, ![1024, 50]⟩
abbrev S1000x768 : Shape := ⟨2, ![1000, 768]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x768 : Shape := ⟨3, ![1024, 50, 768]⟩
abbrev S1024x768 : Shape := ⟨2, ![1024, 768]⟩

abbrev nBuf : Space → Nat
  | .hbm => 39
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S1000x768, .f32⟩
  | .hbm, ⟨3, _⟩ => ⟨S_, .i32⟩
  | .hbm, ⟨4, _⟩ => ⟨S1024x50, .i32⟩
  | .hbm, ⟨5, _⟩ => ⟨S1024x50, .i1⟩
  | .hbm, ⟨6, _⟩ => ⟨S_, .i32⟩
  | .hbm, ⟨7, _⟩ => ⟨S1024x50, .i32⟩
  | .hbm, ⟨8, _⟩ => ⟨S1024x50, .i32⟩
  | .hbm, ⟨9, _⟩ => ⟨S1024x50, .i32⟩
  | .hbm, ⟨10, _⟩ => ⟨S1024x50x1, .i32⟩
  | .hbm, ⟨11, _⟩ => ⟨S1, .i32⟩
  | .hbm, ⟨12, _⟩ => ⟨S_, .i32⟩
  | .hbm, ⟨13, _⟩ => ⟨S1024x50x1, .i32⟩
  | .hbm, ⟨14, _⟩ => ⟨S1024x50x1, .i1⟩
  | .hbm, ⟨15, _⟩ => ⟨S1x1x1, .i32⟩
  | .hbm, ⟨16, _⟩ => ⟨S1024x50x1, .i32⟩
  | .hbm, ⟨17, _⟩ => ⟨S1024x50x1, .i1⟩
  | .hbm, ⟨18, _⟩ => ⟨S1024x50x1, .i1⟩
  | .hbm, ⟨19, _⟩ => ⟨S_, .i1⟩
  | .hbm, ⟨20, _⟩ => ⟨S1024x50, .i1⟩
  | .hbm, ⟨21, _⟩ => ⟨S1024x50x768, .f32⟩
  | .hbm, ⟨22, _⟩ => ⟨S1024x50x768, .i1⟩
  | .hbm, ⟨23, _⟩ => ⟨S_, .f32⟩
  | .hbm, ⟨24, _⟩ => ⟨S1024x50x768, .f32⟩
  | .hbm, ⟨25, _⟩ => ⟨S1024x50x768, .f32⟩
  | .hbm, ⟨26, _⟩ => ⟨S1024x50x1, .i32⟩
  | .hbm, ⟨27, _⟩ => ⟨S1024x50x1, .f32⟩
  | .hbm, ⟨28, _⟩ => ⟨S1024x50x768, .f32⟩
  | .hbm, ⟨29, _⟩ => ⟨S1024x50x768, .f32⟩
  | .hbm, ⟨30, _⟩ => ⟨S_, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S_, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v7 : Ref sig .tc := ⟨.hbm, 37, rfl⟩
abbrev main_v8 : Ref sig .tc := ⟨.hbm, 38, rfl⟩

abbrev nD : Nat := 1
abbrev τ : Topo := Topo.v7x

variable {F : FTy → Type} [FloatOps F]
-- ==== Proof.Histogram.lean ====
/-
  HISTOGRAMS AND LOOKUPS OVER THE EXTENDED REALS — the mathematics of the certificate, about no program.

  A row of the input has ids `id l` and weights `x l ≥ 0`. The histogram of the row gives each word `v` the weights of the
  places whose id is `v`. Two facts: the histogram times a table is the sum of the looked-up rows, each times its weight
  (`table_sum`), and the histogram's entries add up to the weights' sum (`count_sum`).

  `table_sum` takes the sign condition because a product distributes over a sum of extended reals only for summands of one
  sign: with weights 1 and -1 on one word whose table entry is infinite the histogram's product is 0 · ∞ = 0, while the
  lookups' sum is ∞ - ∞.
-/
module

public import Mathlib.Data.EReal.Inv
public import Mathlib.Algebra.BigOperators.Ring.Finset

@[expose] public section

noncomputable section

namespace Cert.Histogram

variable {ι κ : Type} [DecidableEq κ]

/-- A sum of nonnegative extended reals times any extended real is the sum of the products. -/
theorem sum_mul_of_nonneg (s : Finset ι) (f : ι → EReal) (hf : ∀ l, 0 ≤ f l) (w : EReal) :
    (∑ l ∈ s, f l) * w = ∑ l ∈ s, f l * w := by
  classical
  induction s using Finset.induction_on with
  | empty => simp
  | insert a s ha ih =>
    rw [Finset.sum_insert ha, Finset.sum_insert ha, EReal.right_distrib_of_nonneg (hf a) (Finset.sum_nonneg fun l _ => hf l), ih]

variable [Fintype ι] [Fintype κ]

/-- The histogram at the word `v`: the weights of the places whose id is `v`. -/
def hist (id : ι → κ) (x : ι → EReal) (v : κ) : EReal := ∑ l, if v = id l then x l else 0

/-- The histogram times a column of the table is the sum over the places of the looked-up entry times the weight. -/
theorem table_sum (id : ι → κ) (x : ι → EReal) (hx : ∀ l, 0 ≤ x l) (W : κ → EReal) :
    ∑ v, hist id x v * W v = ∑ l, W (id l) * x l := by
  have h (v : κ) : hist id x v * W v = ∑ l, (if v = id l then x l else 0) * W v :=
    sum_mul_of_nonneg _ _ (fun l => by split_ifs; exacts [hx l, le_rfl]) _
  simp only [h]
  rw [Finset.sum_comm]
  refine Finset.sum_congr rfl fun l _ => ?_
  rw [Finset.sum_eq_single (id l) (fun v _ hv => by rw [if_neg hv, zero_mul]) (fun hn => absurd (Finset.mem_univ _) hn),
    if_pos rfl, mul_comm]

/-- The histogram's entries add up to the sum of the weights. -/
theorem count_sum (id : ι → κ) (x : ι → EReal) : ∑ v, hist id x v = ∑ l, x l := by
  unfold hist
  rw [Finset.sum_comm]
  exact Finset.sum_congr rfl fun l _ => by simp

end Cert.Histogram

end
-- ==== Proof.Block.lean ====
/-
  WHAT ONE BLOCK COMPUTES. A grid point of the kernel takes 128 rows of ids and weights and the whole padded table. It adds
  up, place by place over the 50 places, a [128, 1024] histogram: at place `l` row `r` gets its weight in the column of its id.
  It then multiplies the histogram with the table and divides each row by the larger of the histogram's row sum and a small
  constant.

  The 50 additions stand written out in the program; here they are one recursion (`chain`) over one addend (`addend`), equal
  to the program's text by unfolding (`chain_eq`). Read at an index (`hist_apply`) the recursion is a sum over the places.
  `out_apply` is the block's result at a row and a column.
-/
module

public import proofs.«01_k».proof.Proof.Gen.KernelIdeal.Frame
public import proofs.«01_k».proof.Proof.Histogram
public import Idealize.ShloMosaic.Lib.Pointwise
public import Idealize.ShloMosaic.Lib.Pipeline.Value

@[expose] public section

noncomputable section

namespace Cert.KernelIdeal.Block

open Cert.KernelIdeal Cert.KernelIdeal.Gen Idealize.ShloMosaic Idealize.ShloMosaic.TcCoe

/-- Place `l` is one column of a [128, 50] block. -/
theorem slices (l : Fin 50) : S128x50.Slices ![0, l.val] S128x1 := by revert l; decide

/-- Column `l` of a block, stretched over the 1024 words. -/
def column {α : Type} (x : S128x50.Idx → α) (l : Fin 50) : S128x1024.Idx → α :=
  broadcastTo S128x1024
    (shapeCast S128x1 (shapeCast S128 (extractStridedSlice S128x1 ![0, l.val] x (slices l)) shapeCasts_S128x1_S128)
      shapeCasts_S128_S128x1) broadcasts_S128x1_S128x1024

/-- Column `l` of a block of weights; the program casts it once more to the shape it has. -/
def weights (x : FVec Ideal S128x50 .f32) (l : Fin 50) : FVec Ideal S128x1024 .f32 :=
  broadcastTo S128x1024
    (shapeCast S128x1
      (shapeCast S128x1 (shapeCast S128 (extractStridedSlice S128x1 ![0, l.val] x (slices l)) shapeCasts_S128x1_S128)
        shapeCasts_S128_S128x1) shapeCasts_S128x1_S128x1) broadcasts_S128x1_S128x1024

/-- What place `l` adds to the histogram: its weight in the column of its id, zero in the others. -/
def addend (ids : IVec S128x50 32) (x : FVec Ideal S128x50 .f32) (l : Fin 50) : FVec Ideal S128x1024 .f32 :=
  select (cmpi .eq (iota .tc S128x1024 32 [1] iota_S128x1024_d1_w32) (column ids l)) (weights x l)
    (broadcast S128x1024 (Scalar.ofBits .f32 0x00000000#32))

/-- The histogram after the first `n` places. -/
def chain (ids : IVec S128x50 32) (x : FVec Ideal S128x50 .f32) : (n : Nat) → n ≤ 50 → FVec Ideal S128x1024 .f32
  | 0, _ => broadcast S128x1024 (Scalar.ofBits .f32 0x00000000#32)
  | n + 1, h => addf (chain ids x n (Nat.le_of_succ_le h)) (addend ids x ⟨n, h⟩)

/-- The program's fifty written-out additions are the recursion. -/
theorem chain_eq (x0 x1 : Vec Ideal S128x50 .i32) (x2 : Vec Ideal S1024x768 .f32) :
    k0_pay32 (View.ld x0 r0_0) (k0_pay36 x0 x1 x2) (k0_pay35 x0 x1 x2) (k0_pay37 x0 x1 x2) (k0_pay38 x0 x1 x2)
        (k0_pay39 x0 x1 x2)
      = chain (View.ld x0 r0_0) (sitofp .f32 (View.ld x1 r0_0)) 50 le_rfl := rfl

/-- The addend at row `r` and word `v`. -/
theorem addend_apply (ids : IVec S128x50 32) (x : FVec Ideal S128x50 .f32) (l : Fin 50) (r : Fin 128) (v : Fin 1024) :
    addend ids x l (ix2 r v) = if BitVec.ofNat 32 v.val = ids (ix2 r l) then x (ix2 r l) else 0 := by
  pointwise [addend, column, weights]
  by_cases h : BitVec.ofNat 32 v.val = ids (ix2 r l)
  · rw [if_pos h, h, show IntOp.cmpi .eq (ids (ix2 r l)) (ids (ix2 r l)) = 1#1 by simp [IntOp.cmpi]]
    rfl
  · rw [if_neg h, show IntOp.cmpi .eq (BitVec.ofNat 32 v.val) (ids (ix2 r l)) = 0#1 by
      show BitVec.ofBool (BitVec.ofNat 32 v.val == ids (ix2 r l)) = 0#1
      rw [beq_eq_false_iff_ne.mpr h]
      rfl]
    rfl

/-- The histogram after `n` places at an index: the sum of the first `n` addends. -/
theorem chain_apply (ids : IVec S128x50 32) (x : FVec Ideal S128x50 .f32) (j : S128x1024.Idx) :
    (n : Nat) → (h : n ≤ 50) → chain ids x n h j = ∑ l : Fin n, addend ids x (Fin.castLE h l) j
  | 0, _ => by
    show Ideal.ofBits .f32 0x00000000#32 = _
    simp
  | n + 1, h => by
    show chain ids x n _ j + addend ids x ⟨n, h⟩ j = _
    rw [chain_apply ids x j n, Fin.sum_univ_castSucc]
    rfl

/-- Where every id of row `r` is a word, the finished histogram of the row is the histogram of its ids and weights. -/
theorem hist_apply (ids : IVec S128x50 32) (x : FVec Ideal S128x50 .f32) (r : Fin 128) (id : Fin 50 → Fin 1024)
    (hid : ∀ l, ids (ix2 r l) = BitVec.ofNat 32 (id l).val) (v : Fin 1024) :
    chain ids x 50 le_rfl (ix2 r v) = Histogram.hist id (fun l => x (ix2 r l)) v := by
  rw [chain_apply]
  refine Finset.sum_congr rfl fun l _ => ?_
  show addend ids x l (ix2 r v) = _
  rw [addend_apply, hid]
  refine if_congr ⟨fun h => Fin.ext ?_, fun h => by rw [h]⟩ rfl rfl
  have := congrArg BitVec.toNat h
  simp only [BitVec.toNat_ofNat] at this
  omega

theorem hz : (![0, 0] : Fin 2 → Nat) = fun _ => 0 := funext fun a => by fin_cases a <;> rfl

/-- The body's one store, as a function of the three blocks. -/
theorem out_eq (x0 x1 : Vec Ideal S128x50 .i32) (x2 : Vec Ideal S1024x768 .f32) :
    out0_3 x0 x1 x2 = k0_pay1
      (shapeCast S128x1 (multiReduction .add [1] S128 (chain x0 (sitofp .f32 x1) 50 le_rfl) 0x00000000#32
        reduces_S128x1024_S128 (.inl rfl) rfl) shapeCasts_S128_S128x1)
      (matmul (φ₁ := .f32) (φ₂ := .f32) dot_S128x1024_S1024x768_S128x768_1_0_0_1_n_n none (chain x0 (sitofp .f32 x1) 50 le_rfl)
        (shapeCast S1024x768 x2 shapeCasts_S1024x768_S1024x768) (constant S128x768 .f32 0x00000000#32)) := by
  unfold out0_3 k0_pay33 k0_pay34
  rw [View.canon_unit_zero hz, chain_eq, View.ld_unit_zero hz, View.ld_unit_zero hz, View.ld_unit_zero hz]

/-- The block's result at row `r` and column `d`, from the histogram and the table. -/
theorem out_apply (x0 x1 : Vec Ideal S128x50 .i32) (x2 : Vec Ideal S1024x768 .f32) (r : Fin 128) (d : Fin 768) :
    out0_3 x0 x1 x2 (ix2 r d)
      = Ideal.div (∑ v : Fin 1024, chain x0 (sitofp .f32 x1) 50 le_rfl (ix2 r v) * x2 (ix2 v d))
          (max (∑ v : Fin 1024, chain x0 (sitofp .f32 x1) 50 le_rfl (ix2 r v)) (Ideal.ofBits .f32 0x3089705F#32)) := by
  rw [out_eq]
  generalize chain x0 (sitofp .f32 x1) 50 le_rfl = h
  pointwise [k0_pay1]

/-- The block's result under the hypothesis on the inputs: row `r` is the looked-up rows' weighted sum over the weights' sum,
    the latter kept above the small constant. -/
theorem out_lookup (x0 x1 : Vec Ideal S128x50 .i32) (x2 : Vec Ideal S1024x768 .f32) (r : Fin 128) (d : Fin 768)
    (id : Fin 50 → Fin 1024) (hid : ∀ l, x0 (ix2 r l) = BitVec.ofNat 32 (id l).val)
    (hx : ∀ l, 0 ≤ (x1 (ix2 r l)).toInt) :
    out0_3 x0 x1 x2 (ix2 r d)
      = Ideal.div (∑ l, x2 (ix2 (id l) d) * (((x1 (ix2 r l)).toInt : ℝ) : EReal))
          (max (∑ l, (((x1 (ix2 r l)).toInt : ℝ) : EReal)) (Ideal.ofBits .f32 0x3089705F#32)) := by
  rw [out_apply]
  simp only [hist_apply x0 _ r id hid]
  rw [Histogram.count_sum, Histogram.table_sum]
  · rfl
  · intro l
    show (0 : EReal) ≤ (((x1 (ix2 r l)).toInt : ℝ) : EReal)
    exact_mod_cast (Int.cast_nonneg (R := ℝ) (hx l))

end Cert.KernelIdeal.Block

end
-- ==== Proof.Pooled.lean ====
/-
  THE FUNCTION BOTH PROGRAMS COMPUTE. Row `b` of the result is the sum over the 50 places of the table's row at the place's id
  times the place's weight, over the sum of the row's weights, the latter kept above a small constant.
-/
module

public import Idealize.ShloMosaic.Lib.Pointwise

@[expose] public section

noncomputable section

namespace Cert.Pooled

open Idealize.ShloMosaic

/-- The table row an id names: the id read as a signed integer, held in `[0, 999]`. -/
def rowOf (w : BitVec 32) : Fin 1000 := ⟨min w.toInt.toNat 999, by omega⟩

/-- An integer weight as an extended real. -/
def weight (w : BitVec 32) : EReal := ((w.toInt : ℝ) : EReal)

/-- The smallest divisor: the 32-bit float nearest to 1e-9. -/
def floor : EReal := Ideal.ofBits .f32 0x3089705F#32

/-- The pooled rows of `table` at the ids, with the masks as weights. -/
def pooled (ids mask : IVec ⟨2, ![1024, 50]⟩ 32) (table : FVec Ideal ⟨2, ![1000, 768]⟩ .f32) (b : Fin 1024) (d : Fin 768) : EReal :=
  Ideal.div (∑ l : Fin 50, table (ix2 (rowOf (ids (ix2 b l))) d) * weight (mask (ix2 b l)))
    (max (∑ l : Fin 50, weight (mask (ix2 b l))) floor)

/-- Every id names a row of the table, and no mask is negative. -/
def Good (ids mask : IVec ⟨2, ![1024, 50]⟩ 32) : Prop :=
  ∀ i, (0 ≤ (ids i).toInt ∧ (ids i).toInt < 1000) ∧ 0 ≤ (mask i).toInt

/-- An id in range is the word of the row it names. -/
theorem eq_ofNat_rowOf {w : BitVec 32} (h0 : 0 ≤ w.toInt) (h1 : w.toInt < 1000) : w = BitVec.ofNat 32 (rowOf w).val := by
  apply BitVec.eq_of_toNat_eq
  have hw : (rowOf w).val = w.toInt.toNat := by show min w.toInt.toNat 999 = _; omega
  have hc := BitVec.toInt_eq_toNat_cond w
  rw [BitVec.toNat_ofNat, hw]
  split_ifs at hc <;> omega

end Cert.Pooled

end
-- ==== Proof.Final.lean ====
/-
  WHAT THE KERNEL'S ARRAY HOLDS. Grid point `t` reads rows `128 t … 128 t + 127` of the ids and of the masks, and the whole table with
  24 zero rows appended; it writes the same rows of the result. The eight points' blocks cover the result. So, where every
  id names a row of the table and no mask is negative, the result array holds the pooled rows (`final_apply`), and
  `run` states that of every execution of the kernel.
-/
module

public import proofs.«01_k».proof.Proof.Gen.KernelIdeal.Value
public import proofs.«01_k».proof.Proof.Block
public import proofs.«01_k».proof.Proof.Pooled
public import Idealize.ShloMosaic.Lib.Pipeline.ValueKit.Geometry
public import Idealize.ShloMosaic.Lib.StableHlo.Run

@[expose] public section

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.Pooled

variable (m : (ℓ : Loc nD τ sig) → Buf (Elt Ideal) ℓ) (ρ : Dev nD → PrngReg)

/-- The three argument arrays on device `c`. -/
abbrev ids (c : Dev nD) : IVec S1024x50 32 := m ((c : Thread nD τ).loc main_arg0)
abbrev mask (c : Dev nD) : IVec S1024x50 32 := m ((c : Thread nD τ).loc main_arg1)
abbrev table (c : Dev nD) : FVec Ideal S1000x768 .f32 := m ((c : Thread nD τ).loc main_arg2)

/-- The table as the grid finds it: 24 rows appended. -/
theorem V_main_v0 (c : Dev nD) :
    V m c main_v0 = pad S1024x768 ![0, 0] ![24, 0] ![0, 0] (table m c) (sitofp (F := Ideal) .f32 (constantI S_ 32 0#32))
      pads_S1000x768_S1024x768_0240_000 h_S_ := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl

/-- Rows below 1000 are the table's. -/
theorem V_main_v0_apply (c : Dev nD) (v : Fin 1000) (d : Fin 768) :
    V m c main_v0 (ix2 (Fin.castLE (by omega : 1000 ≤ 1024) v) d) = table m c (ix2 v d) := by
  rw [V_main_v0]
  generalize table m c = x
  pointwise
  simp [v.isLt]

/-- Point `t` reads block `t` of the ids and of the masks and writes block `t` of the result. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem lt_rows (t : Fin cfg0.N) (r : Fin 128) : t.val * 128 + r.val < 1024 := by
  have := t.isLt
  have hN : cfg0.N = 8 := N_0
  omega

/-- Row `r` of point `t`'s block, in the whole array. -/
def row (t : Fin cfg0.N) (r : Fin 128) : Fin 1024 := ⟨t.val * 128 + r.val, lt_rows t r⟩

theorem iblk0_apply (c : Dev nD) (t : Fin cfg0.N) (r : Fin 128) (l : Fin 50) :
    iblk m c 0 t (ix2 r l) = ids m c (ix2 (row t r) l) := by
  blk_simp [iblk, V_main_arg0]
  refine congrArg _ ?_
  blk_ext [idx0, row]

theorem iblk1_apply (c : Dev nD) (t : Fin cfg0.N) (r : Fin 128) (l : Fin 50) :
    iblk m c 1 t (ix2 r l) = mask m c (ix2 (row t r) l) := by
  blk_simp [iblk, V_main_arg1]
  refine congrArg _ ?_
  blk_ext [idx1, row]

/-- Rows below 1000 of the third block are the table's, at every point. -/
theorem iblk2_apply (c : Dev nD) (t : Fin cfg0.N) (v : Fin 1000) (d : Fin 768) :
    iblk m c 2 t (ix2 (Fin.castLE (by omega : 1000 ≤ 1024) v) d) = table m c (ix2 v d) := by
  rw [← V_main_v0_apply]
  blk_simp [iblk]
  refine congrArg (V m c main_v0) ?_
  blk_ext [idx2]

/-- The whole result array as one function of the arguments. -/
def G (c : Dev nD) : Buf (Elt Ideal) ((c : Thread nD τ).loc main_v1) :=
  fun i : S1024x768.Idx => pooled (ids m c) (mask m c) (table m c) (i 0) (i 1)

/-- The body's result at point `t` is the pooled row it stands for. -/
theorem out_pooled (c : Dev nD) (hg : Good (ids m c) (mask m c)) (t : Fin cfg0.N) (r : Fin 128) (d : Fin 768) :
    out0_3 (iblk m c 0 t) (iblk m c 1 t) (iblk m c 2 t) (ix2 r d)
      = pooled (ids m c) (mask m c) (table m c) (row t r) d := by
  refine (Block.out_lookup (iblk m c 0 t) (iblk m c 1 t) (iblk m c 2 t) r d
    (fun l => Fin.castLE (by omega : 1000 ≤ 1024) (rowOf (ids m c (ix2 (row t r) l)))) (fun l => ?_) (fun l => ?_)).trans ?_
  · rw [iblk0_apply]
    exact eq_ofNat_rowOf (hg _).1.1 (hg _).1.2
  · rw [iblk1_apply]
    exact (hg _).2
  · simp only [iblk1_apply, iblk2_apply]
    rfl

/-- The result array after the run. -/
theorem final_eq (c : Dev nD) (hg : Good (ids m c) (mask m c)) : (dats m 0 c).arrAt 3 cfg0.N = G m c := by
  refine (dats m 0 c).arrAt_eq_of_covers 3 _ (by decide +kernel) fun t hf y => ?_
  blk_simp
  rw [after0_3]
  refine (congrArg _ (eq_ix2 y)).trans ((out_pooled m c hg t (y 0) (y 1)).trans ?_)
  refine congrArg₂ (pooled (ids m c) (mask m c) (table m c)) (Fin.ext ?_) (Fin.ext ?_)
  · blk_simp [idx3, row]
  · blk_simp [idx3]

/-- Every execution of the kernel ends with the pooled rows in the result and the arguments unchanged. -/
theorem run (hg : ∀ c, Good (ids m c) (mask m c)) :
    θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c (hg c)), (h c).2⟩) (Value.run_blocks m ρ)

end Cert.KernelIdeal.Final

end
-- ==== Proof.RefValue.lean ====
/-
  WHAT THE REFERENCE COMPUTES. The reference looks the ids up in the table (`jnp.take`, which wraps negative ids by 1000 and puts
  a fill value where the id is still out of range), multiplies with the masks, sums over the places and divides. Where every id
  names a row the wrap and the fill do not happen (`wrapped`, `inside`), the lookup is the table's row (`taken`), and the result
  is the pooled rows (`ref_apply`).
-/
module

public import proofs.«01_k».proof.Proof.Gen.ReferenceIdeal.Read
public import proofs.«01_k».proof.Proof.Pooled
public import Idealize.ShloMosaic.Lib.ValueIdxCore

@[expose] public section

noncomputable section

namespace Cert.ReferenceIdeal.RefValue

open Cert.ReferenceIdeal Cert.ReferenceIdeal.Gen Cert.ReferenceIdeal.Read Idealize.ShloMosaic Idealize.ShloMosaic.TcCoe
open Cert.Pooled

/-- The gather at `(b, l, d)`: column `d` of the table's row at the start index `(b, l, 0)`. -/
theorem gather_apply (x : FVec Ideal S1000x768 .f32) (start : IVec S1024x50x1 32) (b : Fin 1024) (l : Fin 50) (d : Fin 768) :
    Host.gather gather_S1000x768_S1024x50x1_S1024x50x768_2_0_n_n_0_2_1768 x start (ix3 b l d)
      = x (ix2 (rowOf (start (ix3 b l 0))) d) := by
  set D := gather_S1000x768_S1024x50x1_S1024x50x768_2_0_n_n_0_2_1768 with hD
  have hb (a : Fin 2) : a ∉ D.operandBatchingDims := List.not_mem_nil
  unfold Host.gather
  refine congrArg x (funext fun a => Fin.ext ?_)
  show D.start (ix3 b l d) start a + D.batchCoord (ix3 b l d) a + D.offCoord (ix3 b l d) a = _
  rw [GatherDims.batchCoord_eq_zero D _ _ (hb a)]
  have ha : a = 0 ∨ a = 1 := match a with
    | ⟨0, _⟩ => Or.inl rfl
    | ⟨1, _⟩ => Or.inr rfl
  rcases ha with rfl | rfl
  · rw [GatherDims.offCoord_eq_zero D _ _ (fun h => ((GatherDims.mem_sKept D _).mp h).1 (List.mem_singleton.mpr rfl))]
    unfold GatherDims.start
    rw [dif_pos (show (0 : Fin 2) ∈ D.startIndexMap from List.mem_singleton.mpr rfl)]
    have e : D.siIdx (ix3 b l d) ⟨List.idxOf (0 : Fin 2) D.startIndexMap,
        List.idxOf_lt_length_iff.2 (List.mem_singleton.mpr rfl)⟩ = ix3 b l 0 := by
      funext k
      refine Fin.ext ?_
      match k with
      | ⟨0, _⟩ => rfl
      | ⟨1, _⟩ => rfl
      | ⟨2, _⟩ => rfl
    rw [e]
    rfl
  · have hk : (1 : Fin 2) ∈ D.sKept :=
      (GatherDims.mem_sKept D _).mpr ⟨by simp [hD, gather_S1000x768_S1024x50x1_S1024x50x768_2_0_n_n_0_2_1768], hb 1⟩
    have hs : (1 : Fin 2) ∉ D.startIndexMap := by simp [hD, gather_S1000x768_S1024x50x1_S1024x50x768_2_0_n_n_0_2_1768]
    unfold GatherDims.start GatherDims.offCoord
    rw [dif_neg hs, dif_pos hk, Nat.zero_add]
    have ho : ∀ k ∈ D.offsetDims, (ix3 b l d k).val = d.val := by
      intro k h
      rw [show k = (2 : Fin 3) from List.mem_singleton.mp h]
      rfl
    exact ho _ (List.getElem_mem _)

variable (x0 x1 : IVec S1024x50 32) (x2 : FVec Ideal S1000x768 .f32)

/-- An id that is not negative is not wrapped. -/
theorem wrapped (hg : Good x0 x1) (b : Fin 1024) (l : Fin 50) (z : Fin 1) :
    val_main_call0_v5 (F := Ideal) x0 (ix3 b l z) = x0 (ix2 b l) := by
  have h : (x0 (ix2 b l)).slt 0#32 = false := by
    have := (hg (ix2 b l)).1.1
    simp [BitVec.slt, this]
  have e : idx_main_call0_v5 (ix3 b l z) = ix2 b l := funext fun a => match a with | ⟨0, _⟩ => rfl | ⟨1, _⟩ => rfl
  rw [val_main_call0_v5_apply, e, val_main_call0_v4_apply, val_main_call0_v1_apply, val_main_call0_v0_apply,
    val_main_call0_c_apply, show IntOp.cmpi .slt (x0 (ix2 b l)) 0#32 = 0#1 by simp [IntOp.cmpi, h]]
  rfl

/-- The range test holds at every place. -/
theorem inside (hg : Good x0 x1) (b : Fin 1024) (l : Fin 50) (z : Fin 1) :
    val_main_call0_v11 (F := Ideal) x0 (ix3 b l z) = 1#1 := by
  obtain ⟨⟨h0, h1⟩, -⟩ := hg (ix2 b l)
  rw [val_main_call0_v11_apply, val_main_call0_v7_apply, val_main_call0_v10_apply, wrapped x0 x1 hg,
    val_main_call0_v6_apply, val_main_call0_c_2_apply, val_main_call0_v9_apply, val_main_call0_v8_apply, val_main_call0_c_1_apply]
  have hle0 : (0#32).sle (x0 (ix2 b l)) = true := by simp [BitVec.sle, h0]
  have hle1 : (x0 (ix2 b l)).sle 999#32 = true := by simp [BitVec.sle]; omega
  simp [IntOp.cmpi, IntOp.andi, hle0, hle1]

/-- The conjunction of the one range test of a place. -/
theorem all_inside (hg : Good x0 x1) (j : S1024x50.Idx) : val_main_call0_v12 (F := Ideal) x0 j = 1#1 := by
  unfold val_main_call0_v12
  rw [Host.reduce_eq_foldl]
  have hb : ∀ L : List S1024x50x1.Idx,
      L.foldl (fun a i => IntOp.andi a (val_main_call0_v11 (F := Ideal) x0 i)) 1#1 = 1#1 := by
    intro L
    induction L with
    | nil => rfl
    | cons i L ih =>
      have hi : val_main_call0_v11 (F := Ideal) x0 i = 1#1 :=
        (congrArg _ (eq_ix3 i)).trans (inside x0 x1 hg (i 0) (i 1) (i 2))
      rw [List.foldl_cons, hi]
      exact ih
  exact hb _

/-- The lookup is the table's row. -/
theorem taken (hg : Good x0 x1) (b : Fin 1024) (l : Fin 50) (d : Fin 768) :
    val_main_v0 (F := Ideal) x0 x2 (ix3 b l d) = x2 (ix2 (rowOf (x0 (ix2 b l))) d) := by
  rw [val_main_v0_apply, val_main_call0_v14_apply, all_inside x0 x1 hg]
  refine (gather_apply x2 _ b l d).trans ?_
  rw [wrapped x0 x1 hg]

/-- The weight of a place, at every column. -/
theorem mask_apply (i : S1024x50x768.Idx) : val_main_v3 (F := Ideal) x1 i = weight (x1 (ix2 (i 0) (i 1))) := by
  rw [val_main_v3_apply, val_main_v2_apply, val_main_v1_apply]
  have e : idx_main_v1 (idx_main_v3 i) = ix2 (i 0) (i 1) := funext fun a => match a with | ⟨0, _⟩ => rfl | ⟨1, _⟩ => rfl
  rw [e]
  rfl

/-- The reference's result at `(b, d)`. -/
theorem ref_apply (hg : Good x0 x1) (b : Fin 1024) (d : Fin 768) :
    val_main_v8 (F := Ideal) x0 x1 x2 (ix2 b d) = pooled x0 x1 x2 b d := by
  have e (k : Fin 50) : idx_main_v5 (ix2 b d) k = ix3 b k d :=
    funext fun a => match a with | ⟨0, _⟩ => rfl | ⟨1, _⟩ => rfl | ⟨2, _⟩ => rfl
  have e' (k : Fin 50) : idx_main_v6 (ix2 b d) k = ix3 b k d :=
    funext fun a => match a with | ⟨0, _⟩ => rfl | ⟨1, _⟩ => rfl | ⟨2, _⟩ => rfl
  have hz : (FloatOps.ofBits .f32 0x00000000#32 : Ideal .f32) = (0 : EReal) := Ideal.ofBits_zero_f32
  rw [val_main_v8_apply, val_main_v7_apply, val_main_v5_apply, val_main_v6_apply, val_main_cst_apply, val_main_cst_0_apply, hz]
  simp only [zero_add, e, e', val_main_v4_apply, mask_apply, taken x0 x1 x2 hg]
  show Ideal.div _ (max _ _) = _
  rw [max_comm]
  rfl

end Cert.ReferenceIdeal.RefValue

end
-- ==== Proof.Precondition.lean ====
/-
  THE PRECONDITION, READ. The predicate `in_range` is all ones exactly where every id is in `[0, 1000)` and every mask is at
  least 0, each read as a signed integer; the proof needs this direction.
-/
module

public import proofs.«01_k».proof.Pre_in_range
public import proofs.«01_k».proof.Proof.Pooled

@[expose] public section

noncomputable section

namespace Cert.Precondition

open Idealize.ShloMosaic Cert.Pooled

/-- The predicate's one stated fact. -/
theorem facts : Cert.Pre_in_range.Facts := ⟨by decide⟩

attribute [local instance] facts

/-- A conjunction of two bits is one only where both are. -/
theorem of_andi {a b : BitVec 1} : IntOp.andi a b = 1#1 → a = 1#1 ∧ b = 1#1 := by revert a b; decide

/-- Where the predicate is all ones, the inputs are in range. -/
theorem good (ids mask : IVec ⟨2, ![1024, 50]⟩ 32) (table : FVec Ideal ⟨2, ![1000, 768]⟩ .f32)
    (h : Cert.Pre_in_range.fn (F := Ideal) ids mask table = fun _ => 1#1) : Good ids mask := by
  intro i
  have hi : IntOp.andi (IntOp.andi (IntOp.cmpi .sge (ids i) 0#32) (IntOp.cmpi .slt (ids i) 1000#32))
      (IntOp.cmpi .sge (mask i) 0#32) = 1#1 := congrFun h i
  obtain ⟨h01, h2⟩ := of_andi hi
  obtain ⟨h0, h1⟩ := of_andi h01
  have bit {b : Bool} (e : BitVec.ofBool b = 1#1) : b = true := by revert e; cases b <;> decide
  have e0 : (0#32).sle (ids i) = true := bit h0
  have e1 : (ids i).slt 1000#32 = true := bit h1
  have e2 : (0#32).sle (mask i) = true := bit h2
  simp only [BitVec.sle, BitVec.slt, decide_eq_true_eq] at e0 e1 e2
  exact ⟨⟨e0, e1⟩, e2⟩

end Cert.Precondition

end
-- ==== Proof.lean ====
/-
  THE CERTIFICATE, ASSEMBLED. The three frames: the kernel's two are the generated ones, the reference's is its generated run read
  at the arguments. `preserves` asks for nothing: no operation was rewritten between the kernel and its idealized print.
  `algebraic`: where the inputs are in range both programs end with the pooled rows (Proof/Final.lean, Proof/RefValue.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Final
public import proofs.«01_k».proof.Proof.RefValue
public import proofs.«01_k».proof.Proof.Precondition
public import Idealize.ShloMosaic.Lib.Quiescent

@[expose] public section

noncomputable section

namespace Cert.Proof

open Idealize.ShloMosaic Idealize.SL.Sem

attribute [local instance] Cert.Precondition.facts

/-- The kernel terminates without fault, its arguments unchanged and every counter back at zero. -/
theorem frame_kernel : Cert.quiescent_Kernel := fun m ρ _ => Cert.Kernel.Gen.frame m ρ

/-- The same of its idealized print. -/
theorem frame_ideal : Cert.quiescent_KernelIdeal := fun m ρ _ => Cert.KernelIdeal.Gen.frame m ρ

/-- The same of the reference, which declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Both programs end with the pooled rows of arguments that agree. -/
theorem algebraic : Cert.algebraic_KernelIdeal_ReferenceIdeal_pre_in_range := by
  intro m ρ m' ρ' hpre hagree
  have hg (c : Dev Cert.KernelIdeal.nD) := Cert.Precondition.good _ _ _ (hpre c)
  refine ⟨Cert.KernelIdeal.Final.G m, Cert.KernelIdeal.Final.run m ρ hg, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  funext i
  exact (congrArg _ (eq_ix2 i)).trans (Cert.ReferenceIdeal.RefValue.ref_apply _ _ _ (hg c) (i 0) (i 1))

theorem claim : Cert.Claim :=
  ⟨Cert.Kernel.Gen.facts, Cert.KernelIdeal.Gen.facts, Cert.ReferenceIdeal.Gen.facts, Cert.Precondition.facts,
    frame_kernel, frame_ideal, fun m ρ _ => frame_ideal m ρ trivial, frame_reference,
    fun m ρ _ => frame_reference m ρ trivial, trivial, algebraic⟩

end Cert.Proof

end
